-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S2048x32 : Shape := ⟨2, ![2048, 32]⟩
abbrev S1 : Shape := ⟨1, ![1]⟩
abbrev S4096x32 : Shape := ⟨2, ![4096, 32]⟩
abbrev S256x4096 : Shape := ⟨2, ![256, 4096]⟩
abbrev S256x32 : Shape := ⟨2, ![256, 32]⟩
abbrev S256x2048 : Shape := ⟨2, ![256, 2048]⟩

abbrev nBuf : Space → Nat
  | .hbm => 11
  | .vmem => 11
  | .smem => 1
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S2048x32, .f32⟩
  | .hbm, ⟨3, _⟩ => ⟨S2048x32, .f32⟩
  | .hbm, ⟨4, _⟩ => ⟨S2048x32, .f32⟩
  | .hbm, ⟨5, _⟩ => ⟨S1, .f32⟩
  | .hbm, ⟨6, _⟩ => ⟨S4096x32, .f32⟩
  | .hbm, ⟨7, _⟩ => ⟨S4096x32, .f32⟩
  | .hbm, ⟨8, _⟩ => ⟨S2048x32, .f32⟩
  | .hbm, ⟨9, _⟩ => ⟨S2048x32, .f32⟩
  | .hbm, ⟨10, _⟩ => ⟨S2048x32, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S256x32, .f32⟩
  | .local _ .smem, ⟨0, _⟩ => ⟨S1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v22 : BitVec 1 := Scalar.cmpi .slt arg0 c8_i32
  let v23 : BitVec 32 := Scalar.extui v22
  let c0_i32 : BitVec 32 := 0#32
  let v24 : BitVec 1 := Scalar.cmpi .ne v23 c0_i32
  v24

def k0_cond2 (i : grid0.Coords) : BitVec 1 :=
  let arg0 : BitVec 32 := BitVec.ofNat 32 (i 0).val
  let c8_i32_21 : BitVec 32 := 8#32
  let v25 : BitVec 1 := Scalar.cmpi .sge arg0 c8_i32_21
  let v26 : BitVec 32 := Scalar.extui v25
  let c0_i32_22 : BitVec 32 := 0#32
  let v27 : BitVec 1 := Scalar.cmpi .ne v26 c0_i32_22
  v27

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4096x4096 : Shape := ⟨2, ![4096, 4096]⟩
abbrev S2048x32 : Shape := ⟨2, ![2048, 32]⟩
abbrev S1 : Shape := ⟨1, ![1]⟩
abbrev S4096x32 : Shape := ⟨2, ![4096, 32]⟩
abbrev S_ : Shape := ⟨0, ![]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S4096x4096, .f32⟩
  | 1 => ⟨S4096x4096, .f32⟩
  | 2 => ⟨S2048x32, .f32⟩
  | 3 => ⟨S2048x32, .f32⟩
  | 4 => ⟨S2048x32, .f32⟩
  | 5 => ⟨S1, .f32⟩
  | 6 => ⟨S4096x32, .f32⟩
  | 7 => ⟨S4096x32, .f32⟩
  | 8 => ⟨S4096x32, .f32⟩
  | 9 => ⟨S_, .f32⟩
  | 10 => ⟨S_, .f32⟩
  | 11 => ⟨S4096x32, .f32⟩
  | 12 => ⟨S4096x32, .i1⟩
  | 13 => ⟨S_, .f32⟩
  | 14 => ⟨S4096x32, .f32⟩
  | 15 => ⟨S4096x32, .f32⟩
  | 16 => ⟨S4096x32, .f32⟩
  | 17 => ⟨S_, .f32⟩
  | 18 => ⟨S4096x32, .f32⟩
  | 19 => ⟨S4096x32, .f32⟩
  | 20 => ⟨S4096x32, .f32⟩
  | 21 => ⟨S_, .f32⟩
  | 22 => ⟨S_, .f32⟩
  | 23 => ⟨S4096x32, .f32⟩
  | 24 => ⟨S4096x32, .i1⟩
  | 25 => ⟨S_, .f32⟩
  | 26 => ⟨S4096x32, .f32⟩
  | 27 => ⟨S4096x32, .f32⟩
  | 28 => ⟨S4096x32, .f32⟩
  | 29 => ⟨S_, .f32⟩
  | 30 => ⟨S4096x32, .f32⟩
  | 31 => ⟨S4096x32, .f32⟩
  | 32 => ⟨S4096x32, .f32⟩
  | 33 => ⟨S_, .f32⟩
  | 34 => ⟨S_, .f32⟩
  | 35 => ⟨S4096x32, .f32⟩
  | 36 => ⟨S4096x32, .i1⟩
  | 37 => ⟨S_, .f32⟩
  | 38 => ⟨S4096x32, .f32⟩
  | 39 => ⟨S4096x32, .f32⟩
  | 40 => ⟨S4096x32, .f32⟩
  | 41 => ⟨S_, .f32⟩
  | 42 => ⟨S4096x32, .f32⟩
  | 43 => ⟨S4096x32, .f32⟩
  | 44 => ⟨S4096x32, .f32⟩
  | 45 => ⟨S_, .f32⟩
  | 46 => ⟨S_, .f32⟩
  | 47 => ⟨S4096x32, .f32⟩
  | 48 => ⟨S4096x32, .i1⟩
  | 49 => ⟨S_, .f32⟩
  | 50 => ⟨S4096x32, .f32⟩
  | 51 => ⟨S4096x32, .f32⟩
  | 52 => ⟨S4096x32, .f32⟩
  | 53 => ⟨S_, .f32⟩
  | 54 => ⟨S4096x32, .f32⟩
  | 55 => ⟨S4096x32, .f32⟩
  | 56 => ⟨S4096x32, .f32⟩
  | 57 => ⟨S_, .f32⟩
  | 58 => ⟨S_, .f32⟩
  | 59 => ⟨S4096x32, .f32⟩
  | 60 => ⟨S4096x32, .i1⟩
  | 61 => ⟨S_, .f32⟩
  | 62 => ⟨S4096x32, .f32⟩
  | 63 => ⟨S4096x32, .f32⟩
  | 64 => ⟨S4096x32, .f32⟩
  | 65 => ⟨S_, .f32⟩
  | 66 => ⟨S4096x32, .f32⟩
  | 67 => ⟨S4096x32, .f32⟩
  | 68 => ⟨S4096x32, .f32⟩
  | 69 => ⟨S_, .f32⟩
  | 70 => ⟨S_, .f32⟩
  | 71 => ⟨S4096x32, .f32⟩
  | 72 => ⟨S4096x32, .i1⟩
  | 73 => ⟨S_, .f32⟩
  | 74 => ⟨S4096x32, .f32⟩
  | 75 => ⟨S4096x32, .f32⟩
  | 76 => ⟨S4096x32, .f32⟩
  | 77 => ⟨S_, .f32⟩
  | 78 => ⟨S4096x32, .f32⟩
  | 79 => ⟨S4096x32, .f32⟩
  | 80 => ⟨S4096x32, .f32⟩
  | 81 => ⟨S_, .f32⟩
  | 82 => ⟨S_, .f32⟩
  | 83 => ⟨S4096x32, .f32⟩
  | 84 => ⟨S4096x32, .i1⟩
  | 85 => ⟨S_, .f32⟩
  | 86 => ⟨S4096x32, .f32⟩
  | 87 => ⟨S4096x32, .f32⟩
  | 88 => ⟨S4096x32, .f32⟩
  | 89 => ⟨S_, .f32⟩
  | 90 => ⟨S4096x32, .f32⟩
  | 91 => ⟨S4096x32, .f32⟩
  | 92 => ⟨S4096x32, .f32⟩
  | 93 => ⟨S_, .f32⟩
  | 94 => ⟨S_, .f32⟩
  | 95 => ⟨S4096x32, .f32⟩
  | 96 => ⟨S4096x32, .i1⟩
  | 97 => ⟨S_, .f32⟩
  | 98 => ⟨S4096x32, .f32⟩
  | 99 => ⟨S4096x32, .f32⟩
  | 100 => ⟨S4096x32, .f32⟩
  | 101 => ⟨S_, .f32⟩
  | 102 => ⟨S4096x32, .f32⟩
  | 103 => ⟨S4096x32, .f32⟩
  | 104 => ⟨S_, .f32⟩
  | 105 => ⟨S4096x32, .f32⟩
  | 106 => ⟨S4096x32, .f32⟩
  | 107 => ⟨S4096x32, .f32⟩
  | 108 => ⟨S4096x32, .f32⟩
  | 109 => ⟨S4096x32, .f32⟩
  | 110 => ⟨S_, .f32⟩
  | 111 => ⟨S4096x32, .f32⟩
  | 112 => ⟨S4096x32, .f32⟩
  | 113 => ⟨S4096x32, .f32⟩
  | 114 => ⟨S4096x32, .f32⟩
  | 115 => ⟨S4096x32, .f32⟩
  | 116 => ⟨S2048x32, .f32⟩
  | 117 => ⟨S2048x32, .f32⟩
  | 118 => ⟨S2048x32, .f32⟩
  | 119 => ⟨S2048x32, .f32⟩
  | 120 => ⟨S1x1, .f32⟩
  | 121 => ⟨S2048x32, .f32⟩
  | 122 => ⟨S2048x32, .f32⟩
  | 123 => ⟨S_, .f32⟩
  | 124 => ⟨S1, .f32⟩
  | 125 => ⟨S1, .f32⟩
  | 126 => ⟨S1x1, .f32⟩
  | 127 => ⟨S2048x32, .f32⟩
  | _ => ⟨S4096x4096, .f32⟩

abbrev hbmTy0_1 (i : Nat) : BufTy := match i % 128 with
  | 0 => ⟨S2048x32, .f32⟩
  | 1 => ⟨S2048x32, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_call1_cst : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_call2_cst : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v6 : Ref sig .tc := ⟨.hbm, 28, rfl⟩
abbrev main_call3_cst : Ref sig .tc := ⟨.hbm, 29, rfl⟩
abbrev main_call3_v0 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_call4_cst : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_call4_v3 : Ref sig .tc := ⟨.hbm, 38, rfl⟩
abbrev main_call4_v4 : Ref sig .tc := ⟨.hbm, 39, rfl⟩
abbrev main_v9 : Ref sig .tc := ⟨.hbm, 40, rfl⟩
abbrev main_call5_cst : Ref sig .tc := ⟨.hbm, 41, rfl⟩
abbrev main_call5_v0 : Ref sig .tc := ⟨.hbm, 42, rfl⟩
abbrev main_v10 : Ref sig .tc := ⟨.hbm, 43, rfl⟩
abbrev main_v11 : Ref sig .tc := ⟨.hbm, 44, rfl⟩
abbrev main_cst_2 : Ref sig .tc := ⟨.hbm, 45, rfl⟩
abbrev main_call6_cst : Ref sig .tc := ⟨.hbm, 46, rfl⟩
abbrev main_call6_v0 : Ref sig .tc := ⟨.hbm, 47, rfl⟩
abbrev main_call6_v1 : Ref sig .tc := ⟨.hbm, 48, rfl⟩
abbrev main_call6_v2 : Ref sig .tc := ⟨.hbm, 49, rfl⟩
abbrev main_call6_v3 : Ref sig .tc := ⟨.hbm, 50, rfl⟩
abbrev main_call6_v4 : Ref sig .tc := ⟨.hbm, 51, rfl⟩
abbrev main_v12 : Ref sig .tc := ⟨.hbm, 52, rfl⟩
abbrev main_call7_cst : Ref sig .tc := ⟨.hbm, 53, rfl⟩
abbrev main_call7_v0 : Ref sig .tc := ⟨.hbm, 54, rfl⟩
abbrev main_v13 : Ref sig .tc := ⟨.hbm, 55, rfl⟩
abbrev main_v14 : Ref sig .tc := ⟨.hbm, 56, rfl⟩
abbrev main_cst_3 : Ref sig .tc := ⟨.hbm, 57, rfl⟩
abbrev main_call8_cst : Ref sig .tc := ⟨.hbm, 58, rfl⟩
abbrev main_call8_v0 : Ref sig .tc := ⟨.hbm, 59, rfl⟩
abbrev main_call8_v1 : Ref sig .tc := ⟨.hbm, 60, rfl⟩
abbrev main_call8_v2 : Ref sig .tc := ⟨.hbm, 61, rfl⟩
abbrev main_call8_v3 : Ref sig .tc := ⟨.hbm, 62, rfl⟩
abbrev main_call8_v4 : Ref sig .tc := ⟨.hbm, 63, rfl⟩
abbrev main_v15 : Ref sig .tc := ⟨.hbm, 64, rfl⟩
abbrev main_call9_cst : Ref sig .tc := ⟨.hbm, 65, rfl⟩
abbrev main_call9_v0 : Ref sig .tc := ⟨.hbm, 66, rfl⟩
abbrev main_v16 : Ref sig .tc := ⟨.hbm, 67, rfl⟩
abbrev main_v17 : Ref sig .tc := ⟨.hbm, 68, rfl⟩
abbrev main_cst_4 : Ref sig .tc := ⟨.hbm, 69, rfl⟩
abbrev main_call10_cst : Ref sig .tc := ⟨.hbm, 70, rfl⟩
abbrev main_call10_v0 : Ref sig .tc := ⟨.hbm, 71, rfl⟩
abbrev main_call10_v1 : Ref sig .tc := ⟨.hbm, 72, rfl⟩
abbrev main_call10_v2 : Ref sig .tc := ⟨.hbm, 73, rfl⟩
abbrev main_call10_v3 : Ref sig .tc := ⟨.hbm, 74, rfl⟩
abbrev main_call10_v4 : Ref sig .tc := ⟨.hbm, 75, rfl⟩
abbrev main_v18 : Ref sig .tc := ⟨.hbm, 76, rfl⟩
abbrev main_call11_cst : Ref sig .tc := ⟨.hbm, 77, rfl⟩
abbrev main_call11_v0 : Ref sig .tc := ⟨.hbm, 78, rfl⟩
abbrev main_v19 : Ref sig .tc := ⟨.hbm, 79, rfl⟩
abbrev main_v20 : Ref sig .tc := ⟨.hbm, 80, rfl⟩
abbrev main_cst_5 : Ref sig .tc := ⟨.hbm, 81, rfl⟩
abbrev main_call12_cst : Ref sig .tc := ⟨.hbm, 82, rfl⟩
abbrev main_call12_v0 : Ref sig .tc := ⟨.hbm, 83, rfl⟩
abbrev main_call12_v1 : Ref sig .tc := ⟨.hbm, 84, rfl⟩
abbrev main_call12_v2 : Ref sig .tc := ⟨.hbm, 85, rfl⟩
abbrev main_call12_v3 : Ref sig .tc := ⟨.hbm, 86, rfl⟩
abbrev main_call12_v4 : Ref sig .tc := ⟨.hbm, 87, rfl⟩
abbrev main_v21 : Ref sig .tc := ⟨.hbm, 88, rfl⟩
abbrev main_call13_cst : Ref sig .tc := ⟨.hbm, 89, rfl⟩
abbrev main_call13_v0 : Ref sig .tc := ⟨.hbm, 90, rfl⟩
abbrev main_v22 : Ref sig .tc := ⟨.hbm, 91, rfl⟩
abbrev main_v23 : Ref sig .tc := ⟨.hbm, 92, rfl⟩
abbrev main_cst_6 : Ref sig .tc := ⟨.hbm, 93, rfl⟩
abbrev main_call14_cst : Ref sig .tc := ⟨.hbm, 94, rfl⟩
abbrev main_call14_v0 : Ref sig .tc := ⟨.hbm, 95, rfl⟩
abbrev main_call14_v1 : Ref sig .tc := ⟨.hbm, 96, rfl⟩
abbrev main_call14_v2 : Ref sig .tc := ⟨.hbm, 97, rfl⟩
abbrev main_call14_v3 : Ref sig .tc := ⟨.hbm, 98, rfl⟩
abbrev main_call14_v4 : Ref sig .tc := ⟨.hbm, 99, rfl⟩
abbrev main_v24 : Ref sig .tc := ⟨.hbm, 100, rfl⟩
abbrev main_call15_cst : Ref sig .tc := ⟨.hbm, 101, rfl⟩
abbrev main_call15_v0 : Ref sig .tc := ⟨.hbm, 102, rfl⟩
abbrev main_v25 : Ref sig .tc := ⟨.hbm, 103, rfl⟩
abbrev main_cst_7 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_cst_8 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_cst_9 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩

abbrev nD : Nat := 1
abbrev τ : Topo := Topo.v7x

variable {F : FTy → Type} [FloatOps F]
-- ==== Proof.Gcn.Block.lean ====
/- What one grid point of the ideal kernel leaves in its two output blocks, as functions of the input blocks. -/
module

public import proofs.«01_k».proof.Proof.Gen.KernelIdeal.Frame
public import Idealize.ShloMosaic.Lib.Pipeline.Value
public import Idealize.ShloMosaic.Lib.Tactic

@[expose] public section

noncomputable section

namespace Cert.KernelIdeal.Block

open Idealize.ShloMosaic Idealize.ShloMosaic.TcCoe Idealize.SL.Sem
open Cert.KernelIdeal Cert.KernelIdeal.Gen

variable {F : FTy → Type} [FloatOps F]

theorem zeroOff : (![0, 0] : Fin 2 → Nat) = fun _ => 0 := funext fun a => by fin_cases a <;> rfl

/-- Columns 0–2047 of a row block of an adjacency matrix. -/
abbrev lo (x : Vec F S256x4096 .f32) : Vec F S256x2048 .f32 :=
  View.ld x (Rect.unit (s := S256x4096) ![0, 0] S256x2048.size inb_S256x4096_S256x2048_0_0)
/-- Columns 2048–4095 of a row block of an adjacency matrix. -/
abbrev hi (x : Vec F S256x4096 .f32) : Vec F S256x2048 .f32 :=
  View.ld x (Rect.unit (s := S256x4096) ![0, 2048] S256x2048.size inb_S256x4096_S256x2048_0_2048)

variable (c : Dev nD) (i : grid0.Coords)
  (a1 : Memref sig .tc .smem S1 .f32) (h1 : a1.IsWhole) (a2 : Memref sig .tc .vmem S256x4096 .f32) (h2 : a2.IsWhole)
  (a3 : Memref sig .tc .vmem S256x4096 .f32) (h3 : a3.IsWhole) (a4 : Memref sig .tc .vmem S2048x32 .f32) (h4 : a4.IsWhole)
  (a5 : Memref sig .tc .vmem S2048x32 .f32) (h5 : a5.IsWhole) (a6 : Memref sig .tc .vmem S2048x32 .f32) (h6 : a6.IsWhole)
  (a7 : Memref sig .tc .vmem S256x32 .f32) (h7 : a7.IsWhole) (a8 : Memref sig .tc .vmem S256x32 .f32) (h8 : a8.IsWhole)
  (x0 : Vec F S1 .f32) (x1 x2 : Vec F S256x4096 .f32) (x3 x4 x5 : Vec F S2048x32 .f32)

theorem first_A (hc0 : cond0_0 i) (hc1 : ¬cond0_1 i) :
    out0_A_6 c i a1 h1 a2 h2 a3 h3 a4 h4 a5 h5 a6 h6 a7 h7 a8 h8 hc0 hc1 x0 x1 x2 x3 x4 x5
      = k0_pay1 x4 (lo x1) x3 (hi x1) := by
  unfold out0_A_6
  rw [View.read_writes_eq_canon _ _ _ (cover0_A_6 c i a1 h1 a2 h2 a3 h3 a4 h4 a5 h5 a6 h6 a7 h7 a8 h8 hc0 hc1 x0 x1 x2 x3 x4 x5)]
  unfold kernelRun0_A
  dsimp only
  rw [View.canon_unit_zero zeroOff]
  simp only [View.readAt_eq_ld, h1.read_unread, h2.read_unread, h3.read_unread, h4.read_unread, h5.read_unread, h6.read_unread,
    View.ld_unit_zero (S := S2048x32) zeroOff, shapeCast_self]

theorem second_A (hc0 : cond0_0 i) (hc1 : ¬cond0_1 i) :
    out0_A_7 c i a1 h1 a2 h2 a3 h3 a4 h4 a5 h5 a6 h6 a7 h7 a8 h8 hc0 hc1 x0 x1 x2 x3 x4 x5
      = k0_pay2 x4 (lo x2) x5 (hi x2) := by
  unfold out0_A_7
  rw [View.read_writes_eq_canon _ _ _ (cover0_A_7 c i a1 h1 a2 h2 a3 h3 a4 h4 a5 h5 a6 h6 a7 h7 a8 h8 hc0 hc1 x0 x1 x2 x3 x4 x5)]
  unfold kernelRun0_A
  dsimp only
  rw [View.canon_unit_zero zeroOff]
  simp only [View.readAt_eq_ld, h1.read_unread, h2.read_unread, h3.read_unread, h4.read_unread, h5.read_unread, h6.read_unread,
    View.ld_unit_zero (S := S2048x32) zeroOff, shapeCast_self]

theorem first_B (hc0 : ¬cond0_0 i) (hc1 : cond0_1 i) :
    out0_B_6 c i a1 h1 a2 h2 a3 h3 a4 h4 a5 h5 a6 h6 a7 h7 a8 h8 hc0 hc1 x0 x1 x2 x3 x4 x5
      = k0_pay1 x4 (lo x1) x3 (hi x1) := by
  unfold out0_B_6
  rw [View.read_writes_eq_canon _ _ _ (cover0_B_6 c i a1 h1 a2 h2 a3 h3 a4 h4 a5 h5 a6 h6 a7 h7 a8 h8 hc0 hc1 x0 x1 x2 x3 x4 x5)]
  unfold kernelRun0_B
  dsimp only
  rw [View.canon_unit_zero zeroOff]
  simp only [View.readAt_eq_ld, h1.read_unread, h2.read_unread, h3.read_unread, h4.read_unread, h5.read_unread, h6.read_unread,
    View.ld_unit_zero (S := S2048x32) zeroOff, shapeCast_self]

theorem second_B (hc0 : ¬cond0_0 i) (hc1 : cond0_1 i) :
    out0_B_7 c i a1 h1 a2 h2 a3 h3 a4 h4 a5 h5 a6 h6 a7 h7 a8 h8 hc0 hc1 x0 x1 x2 x3 x4 x5
      = k0_pay3 x4 (lo x1) x3 (hi x1) (lo x2) x5 (hi x2) (View.ld x0 (Rect.unit (s := S1) ![0] ![1] inb_S1_S1_0) (Shape.Idx.first (by decide))) := by
  unfold out0_B_7
  rw [View.read_writes_eq_canon _ _ _ (cover0_B_7 c i a1 h1 a2 h2 a3 h3 a4 h4 a5 h5 a6 h6 a7 h7 a8 h8 hc0 hc1 x0 x1 x2 x3 x4 x5)]
  unfold kernelRun0_B
  dsimp only
  sl_unfold_words
  rw [View.canon_unit_zero zeroOff]
  simp only [View.readAt_eq_ld, h1.read_unread, h2.read_unread, h3.read_unread, h4.read_unread, h5.read_unread, h6.read_unread,
    View.ld_unit_zero (S := S2048x32) zeroOff, shapeCast_self]

end Cert.KernelIdeal.Block

end
-- ==== Proof.Gcn.Layer.lean ====
/- One graph layer at one output entry, over the extended reals, and the two scalar facts that make four repeated
   layers equal four times one clipped product. -/
module

public import Idealize.ShloMosaic.PureOps.Ideal.Laws
public import Idealize.ShloMosaic.Lib.ValueIdxCore
public import Idealize.ShloMosaic.Lib.Pointwise.Sums
public import Mathlib.Data.EReal.Operations

@[expose] public section

noncomputable section

namespace Cert.Gcn

open Idealize.ShloMosaic
open scoped BigOperators

/-- Row `r` of an adjacency matrix with 4096 columns against column `c` of the two embedding tables stacked one above
    the other: the first 2048 columns meet `top`, the others `bot`. -/
def product {M : ℕ} (adj : FVec Ideal ⟨2, ![M, 4096]⟩ .f32) (top bot : FVec Ideal ⟨2, ![2048, 32]⟩ .f32)
    (r : Fin M) (c : Fin 32) : EReal :=
  (∑ k : Fin 2048, adj (ValueIdx.ix2 r (⟨k.val, by omega⟩ : Fin 4096)) * top (ValueIdx.ix2 k c))
    + ∑ k : Fin 2048, adj (ValueIdx.ix2 r (⟨2048 + k.val, by omega⟩ : Fin 4096)) * bot (ValueIdx.ix2 k c)

/-- The sum of the four equal layers' outputs at one entry: four times the product clipped at zero. -/
def layers {M : ℕ} (adj : FVec Ideal ⟨2, ![M, 4096]⟩ .f32) (top bot : FVec Ideal ⟨2, ![2048, 32]⟩ .f32)
    (r : Fin M) (c : Fin 32) : EReal := 4 * max (product adj top bot r c) 0

/-- The two views weighted by `w` and `1 - w`. -/
def blend (w p q : EReal) : EReal := w * p + (1 - w) * q

/-- Multiplying a negative number by one half keeps it negative, so clipping at zero sees no difference between the
    leaky and the plain activation. -/
theorem clip_leaky (y : EReal) : max (if 0 ≤ y then y else ((1 / 2 : ℝ) : EReal) * y) 0 = max y 0 := by
  split_ifs with h
  · rfl
  · have hy : y ≤ 0 := (not_le.mp h).le
    rw [max_eq_right hy, max_eq_right]
    exact mul_nonpos_of_nonneg_of_nonpos (by exact_mod_cast (by norm_num : (0 : ℝ) ≤ 1 / 2)) hy

/-- Zero plus four copies of a number that is not negative is four times the number, infinity included. -/
theorem four_copies (z : EReal) (hz : 0 ≤ z) : 0 + z + z + z + z = 4 * z := by
  induction z using EReal.rec with
  | bot => simp at hz
  | top =>
    rw [EReal.mul_top_of_pos (by norm_num)]
    rfl
  | coe x =>
    have h4 : (4 : EReal) = ((4 : ℝ) : EReal) := rfl
    rw [h4, zero_add]
    norm_cast
    ring

/-- The four-layer sum as the reference computes it, entry by entry. -/
theorem sum_of_layers (y : EReal) :
    0 + max (if 0 ≤ y then y else ((1 / 2 : ℝ) : EReal) * y) 0 + max (if 0 ≤ y then y else ((1 / 2 : ℝ) : EReal) * y) 0
      + max (if 0 ≤ y then y else ((1 / 2 : ℝ) : EReal) * y) 0 + max (if 0 ≤ y then y else ((1 / 2 : ℝ) : EReal) * y) 0
      = 4 * max y 0 := by
  rw [clip_leaky]
  exact four_copies _ (le_max_right _ _)

/-- A sum over 4096 columns is the sum over the first 2048 plus the sum over the last 2048. -/
theorem split_columns (f : Fin 4096 → EReal) :
    ∑ k, f k = (∑ k : Fin 2048, f ⟨k.val, by omega⟩) + ∑ k : Fin 2048, f ⟨2048 + k.val, by omega⟩ :=
  Fin.sum_univ_two_halves 2048 2048 rfl f

/-- The four float constants of the two programs, as the numbers they stand for. -/
theorem word_zero : Ideal.ofBits .f32 0x00000000#32 = (0 : EReal) := by simp [Ideal.ofBits, Ideal.ieee]
theorem word_four : Ideal.ofBits .f32 0x40800000#32 = (4 : EReal) := by
  simp [Ideal.ofBits, Ideal.ieee, -EReal.coe_mul]
  norm_num
  rfl
theorem word_one : Ideal.ofBits .f32 0x3F800000#32 = (1 : EReal) := by
  simp [Ideal.ofBits, Ideal.ieee, -EReal.coe_mul]
  norm_num
theorem word_half : Ideal.ofBits .f32 0x3F000000#32 = ((1 / 2 : ℝ) : EReal) := by
  simp [Ideal.ofBits, Ideal.ieee, -EReal.coe_mul]
  norm_num

end Cert.Gcn

end
-- ==== Proof.Gcn.BlockValue.lean ====
/- The ideal kernel's block values entry by entry: each is the four-layer sum of one row block, or the two such sums
   blended. -/
module

public import proofs.«01_k».proof.Proof.Gcn.Block
public import proofs.«01_k».proof.Proof.Gcn.Layer
public import Idealize.ShloMosaic.Lib.MatmulPlain
public import Idealize.ShloMosaic.Lib.Pipeline.ValueKit.Tiles

@[expose] public section

noncomputable section

namespace Cert.KernelIdeal.Block

open Idealize.ShloMosaic Idealize.ShloMosaic.TcCoe Idealize.SL.Sem
open Cert.KernelIdeal Cert.KernelIdeal.Gen Cert.Gcn

/-- A block product from a zero accumulator. -/
abbrev half (a : FVec Ideal S256x2048 .f32) (b : FVec Ideal S2048x32 .f32) : FVec Ideal S256x32 .f32 :=
  matmul dot_S256x2048_S2048x32_S256x32_1_0_0_1_n_n none a b (constant S256x32 .f32 0x00000000#32)

/-- At one entry it is the sum over the 2048 shared positions. -/
theorem half_product (a : FVec Ideal S256x2048 .f32) (b : FVec Ideal S2048x32 .f32) (r : Fin 256) (c : Fin 32) :
    half a b (ValueIdx.ix2 r c) = ∑ k : Fin 2048, a (ValueIdx.ix2 r k) * b (ValueIdx.ix2 k c) := by
  refine (Ideal.matmul_plain_apply (M := 256) (K := 2048) (N := 32) none a b _ r c).trans ?_
  rw [show (constant S256x32 .f32 0x00000000#32 : FVec Ideal S256x32 .f32) (ValueIdx.ix2 r c) = 0 from word_zero, zero_add]

/-- The first 2048 columns of a row block, at an entry. -/
theorem lo_entry (x : Vec Ideal S256x4096 .f32) (r : Fin 256) (k : Fin 2048) :
    lo x (ValueIdx.ix2 r k) = x (ValueIdx.ix2 r (⟨k.val, by omega⟩ : Fin 4096)) :=
  View.ld_unit_apply_of x _ _ _ _ _ fun a => by
    fin_cases a
    · exact (Nat.zero_add _).symm
    · exact (Nat.zero_add _).symm

/-- The last 2048 columns of a row block, at an entry. -/
theorem hi_entry (x : Vec Ideal S256x4096 .f32) (r : Fin 256) (k : Fin 2048) :
    hi x (ValueIdx.ix2 r k) = x (ValueIdx.ix2 r (⟨2048 + k.val, by omega⟩ : Fin 4096)) :=
  View.ld_unit_apply_of x _ _ _ _ _ fun a => by
    fin_cases a
    · exact (Nat.zero_add _).symm
    · rfl

/-- The two half products of a row block add up to the product with the stacked tables. -/
theorem halves (x : Vec Ideal S256x4096 .f32) (top bot : Vec Ideal S2048x32 .f32) (r : Fin 256) (c : Fin 32) :
    addf (half (lo x) top) (half (hi x) bot) (ValueIdx.ix2 r c)
      = product (M := 256) x top bot r c := by
  show half (lo x) top (ValueIdx.ix2 r c) + half (hi x) bot (ValueIdx.ix2 r c) = _
  rw [half_product, half_product]
  unfold product
  congr 1
  · exact Finset.sum_congr rfl fun k _ => by rw [lo_entry]
  · exact Finset.sum_congr rfl fun k _ => by rw [hi_entry]

/-- The first view's block: four times the clipped product. -/
theorem pay1_entry (x : Vec Ideal S256x4096 .f32) (top bot : Vec Ideal S2048x32 .f32) (r : Fin 256) (c : Fin 32) :
    k0_pay1 bot (lo x) top (hi x) (ValueIdx.ix2 r c) = layers (M := 256) x top bot r c := by
  unfold layers
  rw [← halves x top bot r c, ← word_zero, ← word_four]
  rfl

/-- The second view's block: the same function of its own matrix and table. -/
theorem pay2_entry (x : Vec Ideal S256x4096 .f32) (top bot : Vec Ideal S2048x32 .f32) (r : Fin 256) (c : Fin 32) :
    k0_pay2 bot (lo x) top (hi x) (ValueIdx.ix2 r c) = layers (M := 256) x top bot r c := by
  unfold layers
  rw [← halves x top bot r c, ← word_zero, ← word_four]
  rfl

/-- The second output's block in the grid's second half: the two views blended by the weight. -/
theorem pay3_entry (x y : Vec Ideal S256x4096 .f32) (top top' bot : Vec Ideal S2048x32 .f32) (w : Elt Ideal .f32)
    (r : Fin 256) (c : Fin 32) :
    k0_pay3 bot (lo x) top (hi x) (lo y) top' (hi y) w (ValueIdx.ix2 r c)
      = blend w (layers (M := 256) x top bot r c) (layers (M := 256) y top' bot r c) := by
  unfold blend
  rw [← pay1_entry, ← pay2_entry, ← word_one]
  rfl

end Cert.KernelIdeal.Block

end
-- ==== Proof.Gcn.Arrays.lean ====
/- What the two output arrays of the ideal kernel hold after all sixteen grid points. -/
module

public import proofs.«01_k».proof.Proof.Gcn.BlockValue
public import Idealize.ShloMosaic.Lib.Pipeline.ValueKit

@[expose] public section

noncomputable section

namespace Cert.KernelIdeal.Arrays

open Idealize.ShloMosaic Idealize.ShloMosaic.TcCoe Idealize.SL.Sem Idealize.ShloMosaic.ValueKit
open Idealize.ShloMosaic.Pipeline (Dat)
open Cert.KernelIdeal Cert.KernelIdeal.Gen Cert.KernelIdeal.Block Cert.Gcn

/-- The first array: the first view's four-layer sum at every node. -/
def first (a : FVec Ideal S4096x4096 .f32) (d me : FVec Ideal S2048x32 .f32) : FVec Ideal S4096x32 .f32 :=
  fun i => layers (M := 4096) a d me (i 0) (i 1)

/-- The second array: the second view's four-layer sum on the upper half of the nodes, the weighted blend of both views on
    the lower half. -/
def second (w : FVec Ideal S1 .f32) (a b : FVec Ideal S4096x4096 .f32) (d me p : FVec Ideal S2048x32 .f32) :
    FVec Ideal S4096x32 .f32 :=
  fun i => if (i 0).val < 2048 then layers (M := 4096) b p me (i 0) (i 1)
    else blend (w (ValueIdx.ix1 (0 : Fin 1))) (layers (M := 4096) a d me (i 0) (i 1)) (layers (M := 4096) b p me (i 0) (i 1))

variable (m : (ℓ : Loc nD τ sig) → Buf (Elt Ideal) ℓ)

/-- The block index of each window at each point: row block `t` for the matrices and the outputs, the one whole block for
    the tables and the weight. -/
theorem idx : ∀ t : Fin cfg0.N, win0_0.index t = ![0] ∧ win0_1.index t = ![t.val, 0] ∧ win0_2.index t = ![t.val, 0]
    ∧ win0_3.index t = ![0, 0] ∧ win0_4.index t = ![0, 0] ∧ win0_5.index t = ![0, 0]
    ∧ win0_6.index t = ![t.val, 0] ∧ win0_7.index t = ![t.val, 0] :=
  (by decide +kernel : ∀ t : Fin grid0.N, _)

theorem blk_inter (c : Dev nD) (t : Fin cfg0.N) : iblk m c 0 t = m ((c : Thread nD τ).loc main_arg5) := by
  blk_ext! [iblk, V, idx t]
theorem blk_d (c : Dev nD) (t : Fin cfg0.N) : iblk m c 3 t = m ((c : Thread nD τ).loc main_arg2) := by
  blk_ext! [iblk, V, idx t]
theorem blk_me (c : Dev nD) (t : Fin cfg0.N) : iblk m c 4 t = m ((c : Thread nD τ).loc main_arg3) := by
  blk_ext! [iblk, V, idx t]
theorem blk_p (c : Dev nD) (t : Fin cfg0.N) : iblk m c 5 t = m ((c : Thread nD τ).loc main_arg4) := by
  blk_ext! [iblk, V, idx t]

/-- Row `r` of block `t` is row `256 t + r` of the array. -/
def rowOf (t : Fin cfg0.N) (r : Fin 256) : Fin 4096 :=
  ⟨t.val * 256 + r.val, by have h : cfg0.N = 16 := N_0; have := t.isLt; have := r.isLt; omega⟩

theorem blk_adj1 (c : Dev nD) (t : Fin cfg0.N) (r : Fin 256) (k : Fin 4096) :
    (iblk m c 1 t : Vec Ideal S256x4096 .f32) (ValueIdx.ix2 r k) = m ((c : Thread nD τ).loc main_arg0) (ValueIdx.ix2 (rowOf t r) k) := by
  blk_simp [iblk]
  refine congrArg (m ((c : Thread nD τ).loc main_arg0)) ?_
  blk_ext [idx t]
  rfl

theorem blk_adj2 (c : Dev nD) (t : Fin cfg0.N) (r : Fin 256) (k : Fin 4096) :
    (iblk m c 2 t : Vec Ideal S256x4096 .f32) (ValueIdx.ix2 r k) = m ((c : Thread nD τ).loc main_arg1) (ValueIdx.ix2 (rowOf t r) k) := by
  blk_simp [iblk]
  refine congrArg (m ((c : Thread nD τ).loc main_arg1)) ?_
  blk_ext [idx t]
  rfl

/-- The four-layer sum of a row block is that of the whole matrix at the block's row. -/
theorem layers_rows (x : FVec Ideal S256x4096 .f32) (a : FVec Ideal S4096x4096 .f32) (top bot : FVec Ideal S2048x32 .f32)
    (r : Fin 256) (R : Fin 4096) (c : Fin 32) (h : ∀ k : Fin 4096, x (ValueIdx.ix2 r k) = a (ValueIdx.ix2 R k)) :
    layers (M := 256) x top bot r c = layers (M := 4096) a top bot R c := by
  unfold layers product
  simp only [h]

/-- The first output's block at any point. -/
theorem first_block (c : Dev nD) (t : Fin cfg0.N) (r : Fin 256) (q : Fin 32) :
    (outsAt0 m c t.val t.isLt).1 (ValueIdx.ix2 r q)
      = layers (M := 4096) (m ((c : Thread nD τ).loc main_arg0)) (m ((c : Thread nD τ).loc main_arg2))
          (m ((c : Thread nD τ).loc main_arg3)) (rowOf t r) q := by
  by_cases h : t.val < 8
  · rw [outsAt0_A m c t h (by omega)]
    dsimp only
    rw [first_A, pay1_entry, blk_d, blk_me]
    exact layers_rows _ _ _ _ _ _ _ (blk_adj1 m c t r)
  · rw [outsAt0_B m c t h (by omega)]
    dsimp only
    rw [first_B, pay1_entry, blk_d, blk_me]
    exact layers_rows _ _ _ _ _ _ _ (blk_adj1 m c t r)

/-- The second output's block at a point of the grid's first half. -/
theorem second_block_upper (c : Dev nD) (t : Fin cfg0.N) (h : t.val < 8) (r : Fin 256) (q : Fin 32) :
    (outsAt0 m c t.val t.isLt).2 (ValueIdx.ix2 r q)
      = layers (M := 4096) (m ((c : Thread nD τ).loc main_arg1)) (m ((c : Thread nD τ).loc main_arg4))
          (m ((c : Thread nD τ).loc main_arg3)) (rowOf t r) q := by
  rw [outsAt0_A m c t h (by omega)]
  dsimp only
  rw [second_A, pay2_entry, blk_p, blk_me]
  exact layers_rows _ _ _ _ _ _ _ (blk_adj2 m c t r)

/-- The second output's block at a point of the grid's second half. -/
theorem second_block_lower (c : Dev nD) (t : Fin cfg0.N) (h : ¬t.val < 8) (r : Fin 256) (q : Fin 32) :
    (outsAt0 m c t.val t.isLt).2 (ValueIdx.ix2 r q)
      = blend ((m ((c : Thread nD τ).loc main_arg5) : FVec Ideal S1 .f32) (ValueIdx.ix1 (0 : Fin 1)))
          (layers (M := 4096) (m ((c : Thread nD τ).loc main_arg0)) (m ((c : Thread nD τ).loc main_arg2))
            (m ((c : Thread nD τ).loc main_arg3)) (rowOf t r) q)
          (layers (M := 4096) (m ((c : Thread nD τ).loc main_arg1)) (m ((c : Thread nD τ).loc main_arg4))
            (m ((c : Thread nD τ).loc main_arg3)) (rowOf t r) q) := by
  rw [outsAt0_B m c t h (by omega)]
  dsimp only
  rw [second_B, pay3_entry, blk_d, blk_p, blk_me, blk_inter, layers_rows _ _ _ _ _ _ _ (blk_adj1 m c t r),
    layers_rows _ _ _ _ _ _ _ (blk_adj2 m c t r)]
  refine congrArg (fun w => blend w _ _) ?_
  exact View.ld_unit_apply_of _ _ _ _ _ _ fun a => by fin_cases a; rfl

/-- The first output array after the run. -/
theorem final_first (c : Dev nD) : (dats m 0 c).arrAt 6 cfg0.N
    = first (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp
  rw [after0_6]
  have hrow : (win0_6.blk t).view.emb y = ValueIdx.ix2 (rowOf t (y 0)) (y 1) := by
    blk_ext [idx t] <;> rfl
  rw [hrow]
  exact (congrArg (outsAt0 m c t.val t.isLt).1 (ValueIdx.eq_ix2 (n0 := 256) (n1 := 32) y)).trans (first_block m c t (y 0) (y 1))

/-- The second output array after the run. -/
theorem final_second (c : Dev nD) : (dats m 0 c).arrAt 7 cfg0.N
    = second (m ((c : Thread nD τ).loc main_arg5)) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  have hrow : (win0_7.blk t).view.emb y = ValueIdx.ix2 (rowOf t (y 0)) (y 1) := by
    blk_ext [idx t] <;> rfl
  have hr : (y 0).val < 256 := (y 0).isLt
  rw [hrow]
  refine (congrArg (outsAt0 m c t.val t.isLt).2 (ValueIdx.eq_ix2 (n0 := 256) (n1 := 32) y)).trans ?_
  by_cases h : t.val < 8
  · exact (second_block_upper m c t h (y 0) (y 1)).trans
      (if_pos (show t.val * 256 + (y 0).val < 2048 by omega)).symm
  · exact (second_block_lower m c t h (y 0) (y 1)).trans
      (if_neg (show ¬t.val * 256 + (y 0).val < 2048 by omega)).symm

end Cert.KernelIdeal.Arrays

end
-- ==== Proof.Gcn.KernelRun.lean ====
/- The ideal kernel's whole run: its three results are halves of the two output arrays, and its arguments end unchanged. -/
module

public import proofs.«01_k».proof.Proof.Gcn.Arrays
public import Idealize.ShloMosaic.Lib.Claim

@[expose] public section

noncomputable section

namespace Cert.KernelIdeal.Results

open Idealize.ShloMosaic Idealize.ShloMosaic.TcCoe Idealize.SL.Sem
open Cert.KernelIdeal Cert.KernelIdeal.Gen Cert.KernelIdeal.Arrays Cert.Gcn

variable (m : (ℓ : Loc nD τ sig) → Buf (Elt Ideal) ℓ) (ρ : Dev nD → PrngReg)

/-- The first output array of the launch memory `m`. -/
abbrev firstOf (c : Dev nD) : FVec Ideal S4096x32 .f32 :=
  first (m ((c : Thread nD τ).loc main_arg0)) (m ((c : Thread nD τ).loc main_arg2)) (m ((c : Thread nD τ).loc main_arg3))

/-- The second output array of the launch memory `m`. -/
abbrev secondOf (c : Dev nD) : FVec Ideal S4096x32 .f32 :=
  second (m ((c : Thread nD τ).loc main_arg5)) (m ((c : Thread nD τ).loc main_arg0)) (m ((c : Thread nD τ).loc main_arg1))
    (m ((c : Thread nD τ).loc main_arg2)) (m ((c : Thread nD τ).loc main_arg3)) (m ((c : Thread nD τ).loc main_arg4))

/-- The array a slice after the region reads is the output array the sixteen points left. -/
theorem read_first (c : Dev nD) (V₀ : Valuation τ sig (Elt Ideal)) :
    Pipeline.withArrays (cfgs 0).spec c V₀ (fun w => (dats m 0 c).arrAt w (cfgs 0).N) (Proc.devRef .tc main_v0_0) = firstOf m c :=
  (Pipeline.withArrays_arr (cfgs 0).spec (by decide) c V₀ _ 6).trans (final_first m c)

theorem read_second (c : Dev nD) (V₀ : Valuation τ sig (Elt Ideal)) :
    Pipeline.withArrays (cfgs 0).spec c V₀ (fun w => (dats m 0 c).arrAt w (cfgs 0).N) (Proc.devRef .tc main_v0_1) = secondOf m c :=
  (Pipeline.withArrays_arr (cfgs 0).spec (by decide) c V₀ _ 7).trans (final_second m c)

/-- Every run ends with the three results at these halves and the arguments as they were. -/
theorem run : θ_run defs (onTc (τ := τ) (main (F := Ideal))) ⟨m, fun _ => 0, ρ⟩ fun r => ∀ c : Dev nD,
      r.2.mem ((c.tc : Thread nD τ).loc main_v1) = extractStridedSlice S2048x32 ![2048, 0] (secondOf m c) slices_S4096x32_S2048x32_2048_0
      ∧ r.2.mem ((c.tc : Thread nD τ).loc main_v2) = extractStridedSlice S2048x32 ![0, 0] (firstOf m c) slices_S4096x32_S2048x32_0_0
      ∧ r.2.mem ((c.tc : Thread nD τ).loc main_v3) = extractStridedSlice S2048x32 ![0, 0] (secondOf m c) slices_S4096x32_S2048x32_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  run_from run_main m ρ & unchanged m ρ
  · unfold Pipeline.afterTail₀
    rw [← read_second m c (V0 m c)]
    generalize Pipeline.withArrays _ _ _ _ = W
    simp only [hostOps1, List.flatten_cons, List.flatten_nil, List.append_nil, List.cons_append, List.nil_append]
    after_results
  · unfold Pipeline.afterTail₀
    rw [← read_first m c (V0 m c)]
    generalize Pipeline.withArrays _ _ _ _ = W
    simp only [hostOps1, List.flatten_cons, List.flatten_nil, List.append_nil, List.cons_append, List.nil_append]
    after_results
  · unfold Pipeline.afterTail₀
    rw [← read_second m c (V0 m c)]
    generalize Pipeline.withArrays _ _ _ _ = W
    simp only [hostOps1, List.flatten_cons, List.flatten_nil, List.append_nil, List.cons_append, List.nil_append]
    after_results

end Cert.KernelIdeal.Results

end
-- ==== Proof.Gcn.Reference.lean ====
/- What the ideal reference returns, entry by entry: its four looped layers add up to four times one clipped product. -/
module

public import proofs.«01_k».proof.Proof.Gen.ReferenceIdeal.Run
public import proofs.«01_k».proof.Proof.Gcn.Layer
public import Idealize.ShloMosaic.Lib.StackMember
public import Idealize.ShloMosaic.Lib.Pipeline.Value

@[expose] public section

noncomputable section

namespace Cert.ReferenceIdeal.Entries

open Idealize.ShloMosaic Idealize.ShloMosaic.TcCoe Idealize.SL.Sem
open Cert.ReferenceIdeal Cert.ReferenceIdeal.Gen Cert.ReferenceIdeal.Value Cert.Gcn

/-- The two embedding tables stacked, node features of the whole graph. -/
def stacked (top bot : FVec Ideal S2048x32 .f32) : FVec Ideal S4096x32 .f32 :=
  concatenate S4096x32 0 [⟨S2048x32, top⟩, ⟨S2048x32, bot⟩] concatenates_S2048x32_S2048x32_S4096x32_d0

/-- A scalar constant spread over all nodes. -/
def spread (b : BitVec 32) : FVec Ideal S4096x32 .f32 :=
  broadcastInDim S4096x32 ![] bcast_S_S4096x32 (constant S_ .f32 b)

/-- The matrix product of one layer. -/
def propagated (a : FVec Ideal S4096x4096 .f32) (top bot : FVec Ideal S2048x32 .f32) : FVec Ideal S4096x32 .f32 :=
  Host.dotGeneral dot_S4096x4096_S4096x32_S4096x32_1_0_0_1_n_n none a (stacked top bot)

/-- One layer: the product through the leaky activation and then clipped at zero. -/
def layer (a : FVec Ideal S4096x4096 .f32) (top bot : FVec Ideal S2048x32 .f32) : FVec Ideal S4096x32 .f32 :=
  maximumf (select (cmpf .oge (propagated a top bot) (spread 0x00000000#32)) (propagated a top bot)
    (mulf (spread 0x3F000000#32) (propagated a top bot))) (spread 0x00000000#32)

/-- Zero plus four copies of the layer. -/
def total (a : FVec Ideal S4096x4096 .f32) (top bot : FVec Ideal S2048x32 .f32) : FVec Ideal S4096x32 .f32 :=
  addf (addf (addf (addf (spread 0x00000000#32) (layer a top bot)) (layer a top bot)) (layer a top bot)) (layer a top bot)

/-- The stacked tables in the first 2048 rows. -/
theorem stacked_top (top bot : FVec Ideal S2048x32 .f32) (k : Fin 2048) (c : Fin 32) :
    stacked top bot (ValueIdx.ix2 (⟨k.val, by omega⟩ : Fin 4096) c) = top (ValueIdx.ix2 k c) :=
  concatenate_pair_apply_left (t := S4096x32) 0 top bot _ _ rfl _ fun b => by fin_cases b <;> rfl

/-- The stacked tables in the last 2048 rows. -/
theorem stacked_bot (top bot : FVec Ideal S2048x32 .f32) (k : Fin 2048) (c : Fin 32) :
    stacked top bot (ValueIdx.ix2 (⟨2048 + k.val, by omega⟩ : Fin 4096) c) = bot (ValueIdx.ix2 k c) :=
  concatenate_pair_apply_right (t := S4096x32) 0 top bot _ _ rfl rfl _ (fun b hb => by
    fin_cases b
    · exact absurd rfl hb
    · rfl) (show k.val + 2048 = 2048 + k.val from Nat.add_comm _ _)

/-- The product at one entry, split at the seam of the two tables. -/
theorem propagated_entry (a : FVec Ideal S4096x4096 .f32) (top bot : FVec Ideal S2048x32 .f32) (r : Fin 4096) (c : Fin 32) :
    propagated a top bot (ValueIdx.ix2 r c) = product (M := 4096) a top bot r c := by
  refine (StackMember.dotGeneral_plain_apply (m := 4096) (k := 4096) (n := 32) none a (stacked top bot) r c).trans ?_
  rw [split_columns]
  unfold product
  exact congrArg₂ (· + ·) (Finset.sum_congr rfl fun k _ => by rw [stacked_top])
    (Finset.sum_congr rfl fun k _ => by rw [stacked_bot])

/-- One layer at one entry. -/
theorem layer_entry (a : FVec Ideal S4096x4096 .f32) (top bot : FVec Ideal S2048x32 .f32) (r : Fin 4096) (c : Fin 32) :
    layer a top bot (ValueIdx.ix2 r c)
      = max (if 0 ≤ product (M := 4096) a top bot r c then product (M := 4096) a top bot r c
          else ((1 / 2 : ℝ) : EReal) * product (M := 4096) a top bot r c) 0 := by
  rw [← propagated_entry, ← word_half]
  unfold layer
  generalize hy : propagated a top bot = y
  show max (if Ideal.cmp .oge (y (ValueIdx.ix2 r c)) (Ideal.ofBits .f32 0x00000000#32) = 1#1 then y (ValueIdx.ix2 r c)
    else Ideal.ofBits .f32 0x3F000000#32 * y (ValueIdx.ix2 r c)) (Ideal.ofBits .f32 0x00000000#32) = _
  rw [word_zero]
  congr 1
  by_cases h : (0 : EReal) ≤ y (ValueIdx.ix2 r c)
  · simp [Ideal.cmp, h]
  · simp [Ideal.cmp, h]

/-- The four looped layers at one entry. -/
theorem total_entry (a : FVec Ideal S4096x4096 .f32) (top bot : FVec Ideal S2048x32 .f32) (r : Fin 4096) (c : Fin 32) :
    total a top bot (ValueIdx.ix2 r c) = layers (M := 4096) a top bot r c := by
  show Ideal.ofBits .f32 0x00000000#32 + layer a top bot (ValueIdx.ix2 r c) + layer a top bot (ValueIdx.ix2 r c)
    + layer a top bot (ValueIdx.ix2 r c) + layer a top bot (ValueIdx.ix2 r c) = _
  rw [layer_entry, word_zero]
  exact sum_of_layers _

/-- The upper half of the nodes. -/
def upper (x : FVec Ideal S4096x32 .f32) : FVec Ideal S2048x32 .f32 :=
  extractStridedSlice S2048x32 ![0, 0] x slices_S4096x32_S2048x32_0_0

/-- The lower half of the nodes. -/
def lower (x : FVec Ideal S4096x32 .f32) : FVec Ideal S2048x32 .f32 :=
  extractStridedSlice S2048x32 ![2048, 0] x slices_S4096x32_S2048x32_2048_0

theorem upper_entry (x : FVec Ideal S4096x32 .f32) (r : Fin 2048) (q : Fin 32) :
    upper x (ValueIdx.ix2 r q) = x (ValueIdx.ix2 (⟨r.val, by omega⟩ : Fin 4096) q) := by
  unfold upper
  refine extractStridedSlice_apply (t := S2048x32) _ x _ _ _ fun a => ?_
  fin_cases a <;> exact (Nat.zero_add _).symm

theorem lower_entry (x : FVec Ideal S4096x32 .f32) (r : Fin 2048) (q : Fin 32) :
    lower x (ValueIdx.ix2 r q) = x (ValueIdx.ix2 (⟨2048 + r.val, by omega⟩ : Fin 4096) q) := by
  unfold lower
  refine extractStridedSlice_apply (t := S2048x32) _ x _ _ _ fun a => ?_
  fin_cases a
  · rfl
  · exact (Nat.zero_add _).symm

/-- A one-element weight spread over half of the nodes. -/
def weight (w : FVec Ideal S1 .f32) : FVec Ideal S2048x32 .f32 :=
  broadcastInDim S2048x32 ![0, 1] bcast_S1x1_S2048x32_0_1 (broadcastInDim S1x1 ![1] bcast_S1_S1x1_1 w)

theorem weight_entry (w : FVec Ideal S1 .f32) (r : Fin 2048) (q : Fin 32) :
    weight w (ValueIdx.ix2 r q) = w (ValueIdx.ix1 (0 : Fin 1)) :=
  (broadcastInDim_apply _ _ _ _ (ValueIdx.ix2 (0 : Fin 1) (0 : Fin 1)) fun a => by fin_cases a <;> rfl).trans
    (broadcastInDim_apply _ _ _ _ (ValueIdx.ix1 (0 : Fin 1)) fun a => by fin_cases a; rfl)

/-- One minus the weight. -/
def complement (w : FVec Ideal S1 .f32) : FVec Ideal S1 .f32 :=
  subf (broadcastInDim S1 ![] bcast_S_S1 (constant S_ .f32 0x3F800000#32)) w

/-- The two halves blended by the weight. -/
def blended (w : FVec Ideal S1 .f32) (x y : FVec Ideal S4096x32 .f32) : FVec Ideal S2048x32 .f32 :=
  addf (mulf (weight w) (lower x)) (mulf (weight (complement w)) (lower y))

theorem blended_entry (w : FVec Ideal S1 .f32) (x y : FVec Ideal S4096x32 .f32) (r : Fin 2048) (q : Fin 32) :
    blended w x y (ValueIdx.ix2 r q) = blend (w (ValueIdx.ix1 (0 : Fin 1)))
      (x (ValueIdx.ix2 (⟨2048 + r.val, by omega⟩ : Fin 4096) q)) (y (ValueIdx.ix2 (⟨2048 + r.val, by omega⟩ : Fin 4096) q)) := by
  unfold blend
  rw [← lower_entry x, ← lower_entry y, ← word_one, ← weight_entry w r q]
  show weight w (ValueIdx.ix2 r q) * lower x (ValueIdx.ix2 r q)
    + weight (complement w) (ValueIdx.ix2 r q) * lower y (ValueIdx.ix2 r q) = _
  rw [weight_entry (complement w), weight_entry w]
  rfl

variable (m : (ℓ : Loc nD τ sig) → Buf (Elt Ideal) ℓ) (c : Dev nD)

/-- The three results in these words. -/
theorem result_first : res_main_v37 m c = upper (total (m ((c.tc : Thread nD τ).loc main_arg0))
    (m ((c.tc : Thread nD τ).loc main_arg2)) (m ((c.tc : Thread nD τ).loc main_arg3))) := by
  unfold res_main_v37 upper total layer propagated stacked spread
  rfl

theorem result_second : res_main_v39 m c = upper (total (m ((c.tc : Thread nD τ).loc main_arg1))
    (m ((c.tc : Thread nD τ).loc main_arg4)) (m ((c.tc : Thread nD τ).loc main_arg3))) := by
  unfold res_main_v39 upper total layer propagated stacked spread
  rfl

theorem result_blend : res_main_v48 m c = blended (m ((c.tc : Thread nD τ).loc main_arg5))
    (total (m ((c.tc : Thread nD τ).loc main_arg0)) (m ((c.tc : Thread nD τ).loc main_arg2)) (m ((c.tc : Thread nD τ).loc main_arg3)))
    (total (m ((c.tc : Thread nD τ).loc main_arg1)) (m ((c.tc : Thread nD τ).loc main_arg4)) (m ((c.tc : Thread nD τ).loc main_arg3))) := by
  unfold res_main_v48 blended weight complement lower total layer propagated stacked spread
  rfl

end Cert.ReferenceIdeal.Entries

end
-- ==== Proof.Gcn.Equation.lean ====
/- The equation: each half of a kernel output array is the reference's result. -/
module

public import proofs.«01_k».proof.Proof.Gcn.KernelRun
public import proofs.«01_k».proof.Proof.Gcn.Reference

@[expose] public section

noncomputable section

namespace Cert.Gcn.Equation

open Idealize.ShloMosaic
open Cert.KernelIdeal Cert.KernelIdeal.Gen Cert.KernelIdeal.Arrays Cert.ReferenceIdeal.Entries

variable (w : FVec Ideal S1 .f32) (a b : FVec Ideal S4096x4096 .f32) (d me p : FVec Ideal S2048x32 .f32)

/-- Two half-height arrays agree when they agree at every row and column. -/
theorem ext_entries {x y : FVec Ideal S2048x32 .f32}
    (h : ∀ (r : Fin 2048) (q : Fin 32), x (ValueIdx.ix2 r q) = y (ValueIdx.ix2 r q)) : x = y :=
  funext fun i => (ValueIdx.eq_ix2 (n0 := 2048) (n1 := 32) i) ▸ h (i 0) (i 1)

/-- The lower half of the second array is the reference's blend. -/
theorem lower_second : extractStridedSlice S2048x32 ![2048, 0] (second w a b d me p) slices_S4096x32_S2048x32_2048_0
    = blended w (total a d me) (total b p me) := by
  refine ext_entries fun r q => ?_
  refine (extractStridedSlice_apply (t := S2048x32) _ _ _ _
    (ValueIdx.ix2 (⟨2048 + r.val, by omega⟩ : Fin 4096) q) fun x => ?_).trans ?_
  · fin_cases x
    · rfl
    · exact (Nat.zero_add _).symm
  · refine Eq.trans ?_ (blended_entry w (total a d me) (total b p me) r q).symm
    rw [total_entry, total_entry]
    exact if_neg (show ¬2048 + r.val < 2048 by omega)

/-- The upper half of the first array is the reference's first view. -/
theorem upper_first : extractStridedSlice S2048x32 ![0, 0] (first a d me) slices_S4096x32_S2048x32_0_0
    = upper (total a d me) := by
  refine ext_entries fun r q => ?_
  refine (extractStridedSlice_apply (t := S2048x32) _ _ _ _
    (ValueIdx.ix2 (⟨r.val, by omega⟩ : Fin 4096) q) fun x => ?_).trans ?_
  · fin_cases x <;> exact (Nat.zero_add _).symm
  · refine Eq.trans ?_ (upper_entry (total a d me) r q).symm
    rw [total_entry]
    rfl

/-- The upper half of the second array is the reference's second view. -/
theorem upper_second : extractStridedSlice S2048x32 ![0, 0] (second w a b d me p) slices_S4096x32_S2048x32_0_0
    = upper (total b p me) := by
  refine ext_entries fun r q => ?_
  refine (extractStridedSlice_apply (t := S2048x32) _ _ _ _
    (ValueIdx.ix2 (⟨r.val, by omega⟩ : Fin 4096) q) fun x => ?_).trans ?_
  · fin_cases x <;> exact (Nat.zero_add _).symm
  · refine Eq.trans ?_ (upper_entry (total b p me) r q).symm
    rw [total_entry]
    exact if_pos r.isLt

end Cert.Gcn.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gcn.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The kernel and the reference, from equal arguments, end with equal results over the extended reals. -/
theorem results_equal : Cert.algebraic_KernelIdeal_ReferenceIdeal := by
  intro m g m' g' _ hargs
  refine ⟨_, _, _, Cert.KernelIdeal.Results.run m g, ?_⟩
  refine (θ_run Cert.ReferenceIdeal.defs _ _).mono (fun r h c => ?_) (Cert.ReferenceIdeal.Value.run (F := Ideal) m' g')
  obtain ⟨h0, h1, h2, hrest⟩ := h c
  obtain ⟨e0, e1, e2, e3, e4, e5⟩ := hargs c
  refine ⟨h0.trans ?_, h1.trans ?_, h2.trans ?_, hrest⟩
  · rw [Cert.ReferenceIdeal.Entries.result_blend, e0, e1, e2, e3, e4, e5]
    exact (Cert.Gcn.Equation.lower_second ..).symm
  · rw [Cert.ReferenceIdeal.Entries.result_first, e0, e2, e3]
    exact (Cert.Gcn.Equation.upper_first ..).symm
  · rw [Cert.ReferenceIdeal.Entries.result_second, e1, e3, e4]
    exact (Cert.Gcn.Equation.upper_second ..).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, results_equal⟩

end Cert.Proof

end
